-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x64 : Shape := ⟨2, ![8192, 64]⟩
abbrev S1024x64 : Shape := ⟨2, ![1024, 64]⟩
abbrev S9216x64 : Shape := ⟨2, ![9216, 64]⟩
abbrev S_ : Shape := ⟨0, ![]⟩

class Facts : Prop where
  concatenates_S8192x64_S1024x64_S9216x64_d0 : Shape.Concatenates [S8192x64, S1024x64] S9216x64 0
  bcast_S_S9216x64 : S_.BroadcastsInDim S9216x64 (![] : Fin 0 → Fin S9216x64.rank)

variable [Facts]

def fn {F : FTy → Type} [FloatOps F] (main_arg0 : FVec F S8192x64 .f32) (main_arg1 : FVec F S1024x64 .f32) : IVec S9216x64 1 :=
  let main_v0 : FVec F S9216x64 .f32 := (fun a b => concatenate S9216x64 0 [⟨S8192x64, a⟩, ⟨S1024x64, b⟩] concatenates_S8192x64_S1024x64_S9216x64_d0) main_arg0 main_arg1
  let main_v1 : FVec F S9216x64 .f32 := Host.absf main_v0
  let main_cst : FVec F S_ .f32 := constant S_ .f32 0x7F800000#32
  let main_v2 : FVec F S9216x64 .f32 := broadcastInDim S9216x64 ![] bcast_S_S9216x64 main_cst
  let main_v3 : IVec S9216x64 1 := cmpf .olt main_v1 main_v2
  main_v3
-- ==== Kernel.lean ====
abbrev S8192x64 : Shape := ⟨2, ![8192, 64]⟩
abbrev S1024x64 : Shape := ⟨2, ![1024, 64]⟩
abbrev S64x8192 : Shape := ⟨2, ![64, 8192]⟩
abbrev S1x8192 : Shape := ⟨2, ![1, 8192]⟩
abbrev S8192 : Shape := ⟨1, ![8192]⟩
abbrev S64x4096 : Shape := ⟨2, ![64, 4096]⟩
abbrev S1x4096 : Shape := ⟨2, ![1, 4096]⟩
abbrev S1024 : Shape := ⟨1, ![1024]⟩
abbrev S1024x1 : Shape := ⟨2, ![1024, 1]⟩
abbrev S8x1024 : Shape := ⟨2, ![8, 1024]⟩
abbrev S64x1024 : Shape := ⟨2, ![64, 1024]⟩
abbrev S1024x1024 : Shape := ⟨2, ![1024, 1024]⟩
abbrev S8x1 : Shape := ⟨2, ![8, 1]⟩
abbrev S1x1024 : Shape := ⟨2, ![1, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x64, .f32⟩
  | .hbm, ⟨1, _⟩ => ⟨S1024x64, .f32⟩
  | .hbm, ⟨2, _⟩ => ⟨S64x8192, .f32⟩
  | .hbm, ⟨3, _⟩ => ⟨S1x8192, .i32⟩
  | .hbm, ⟨4, _⟩ => ⟨S8192, .i32⟩
  | .local _ .vmem, ⟨0, _⟩ => ⟨S64x4096, .f32⟩
  | .local _ .vmem, ⟨1, _⟩ => ⟨S64x4096, .f32⟩
  | .local _ .vmem, ⟨2, _⟩ => ⟨S1024x64, .f32⟩
  | .local _ .vmem, ⟨3, _⟩ => ⟨S1x4096, .i32⟩
  | .local _ .vmem, ⟨4, _⟩ => ⟨S1x4096, .i32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "big" => some ⊤
  | _ => none
-- ==== ReferenceIdeal.lean ====
abbrev S8192x64 : Shape := ⟨2, ![8192, 64]⟩
abbrev S1024x64 : Shape := ⟨2, ![1024, 64]⟩
abbrev S_ : Shape := ⟨0, ![]⟩
abbrev S8192 : Shape := ⟨1, ![8192]⟩
abbrev S8192x1 : Shape := ⟨2, ![8192, 1]⟩
abbrev S1024 : Shape := ⟨1, ![1024]⟩
abbrev S64x1024 : Shape := ⟨2, ![64, 1024]⟩
abbrev S8192x1024 : Shape := ⟨2, ![8192, 1024]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S1024x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S64x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .i32⟩
  | .hbm, ⟨20, _⟩ => ⟨S_, .f32⟩
  | .hbm, ⟨21, _⟩ => ⟨S_, .i32⟩
  | .hbm, ⟨22, _⟩ => ⟨S8192, .f32⟩
  | .hbm, ⟨23, _⟩ => ⟨S8192, .i32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Proof.LexMin.lean ====
/- The first index of the least value: the notion both programs' answers are compared by, and how it is
   carried along one more candidate, over two disjoint groups of candidates, and through a fold. -/
module

public import Idealize.ShloMosaic.PureOps.Ideal
public import Idealize.ShloMosaic.PureOps.Ideal.Laws

@[expose] public section

namespace Cert.Proof

/-- Among the positions satisfying `S`, position `p` carries the least value of `f`, and is the first of
    those that carry it. -/
def IsFirstMin (f : ℕ → EReal) (S : ℕ → Prop) (p : ℕ) : Prop :=
  S p ∧ ∀ j, S j → f p < f j ∨ (f p = f j ∧ p ≤ j)

namespace IsFirstMin

variable {f g : ℕ → EReal} {S T : ℕ → Prop} {p q : ℕ}

/-- The value at the first minimum is below every candidate's. -/
theorem le (h : IsFirstMin f S p) {j : ℕ} (hj : S j) : f p ≤ f j := by
  rcases h.2 j hj with h | h
  · exact h.le
  · exact h.1.le

/-- There is at most one first minimum. -/
theorem unique (hp : IsFirstMin f S p) (hq : IsFirstMin f S q) : p = q := by
  rcases hp.2 q hq.1 with h | h <;> rcases hq.2 p hp.1 with h' | h'
  · exact absurd h' h.not_gt
  · exact absurd h'.1 h.ne'
  · exact absurd h.1 h'.ne'
  · omega

/-- The first minimum depends on the order of the values only. -/
theorem of_order (hp : IsFirstMin f S p)
    (h : ∀ i j, S i → S j → (f i < f j ↔ g i < g j)) : IsFirstMin g S p := by
  refine ⟨hp.1, fun j hj => ?_⟩
  rcases hp.2 j hj with hlt | ⟨heq, hle⟩
  · exact .inl ((h p j hp.1 hj).1 hlt)
  · rcases lt_trichotomy (g p) (g j) with hg | hg | hg
    · exact .inl hg
    · exact .inr ⟨hg, hle⟩
    · exact absurd heq ((h j p hj hp.1).2 hg).ne'

/-- The same candidates, described another way. -/
theorem congr_set (hp : IsFirstMin f S p) (h : ∀ j, S j ↔ T j) : IsFirstMin f T p :=
  ⟨(h p).1 hp.1, fun j hj => hp.2 j ((h j).2 hj)⟩

/-- One candidate alone is the first minimum. -/
theorem single (f : ℕ → EReal) (n : ℕ) : IsFirstMin f (fun j => j = n) n :=
  ⟨rfl, fun _ hj => .inr ⟨by rw [hj], hj.ge⟩⟩

/-- One more candidate, later than all others, takes over only with a strictly smaller value. -/
theorem step (hp : IsFirstMin f S p) {n : ℕ} (hn : ∀ j, S j → j < n) :
    IsFirstMin f (fun j => S j ∨ j = n) (if f n < f p then n else p) := by
  by_cases h : f n < f p
  · rw [if_pos h]
    refine ⟨.inr rfl, fun j hj => ?_⟩
    rcases hj with hj | rfl
    · exact .inl (h.trans_le (hp.le hj))
    · exact .inr ⟨rfl, le_rfl⟩
  · rw [if_neg h]
    refine ⟨.inl hp.1, fun j hj => ?_⟩
    rcases hj with hj | rfl
    · exact hp.2 j hj
    · rcases (not_lt.1 h).lt_or_eq with hlt | heq
      · exact .inl hlt
      · exact .inr ⟨heq, (hn p hp.1).le⟩

/-- Of two groups' first minima the second wins with a smaller value, or with an equal value and an
    earlier position. -/
theorem merge (hp : IsFirstMin f S p) (hq : IsFirstMin f T q) :
    IsFirstMin f (fun j => S j ∨ T j) (if f q < f p ∨ (f q = f p ∧ q < p) then q else p) := by
  by_cases h : f q < f p ∨ (f q = f p ∧ q < p)
  · rw [if_pos h]
    refine ⟨.inr hq.1, fun j hj => ?_⟩
    rcases hj with hj | hj
    · rcases h with h | ⟨h, hlt⟩
      · exact .inl (h.trans_le (hp.le hj))
      · rcases hp.2 j hj with h' | ⟨h', hle⟩
        · exact .inl (h ▸ h')
        · exact .inr ⟨h.trans h', by omega⟩
    · exact hq.2 j hj
  · rw [if_neg h]
    rw [not_or, not_and] at h
    refine ⟨.inl hp.1, fun j hj => ?_⟩
    rcases hj with hj | hj
    · exact hp.2 j hj
    · rcases (not_lt.1 h.1).lt_or_eq with hlt | heq
      · exact .inl (hlt.trans_le (hq.le hj))
      · rcases hq.2 j hj with h' | ⟨h', hle⟩
        · exact .inl (heq.trans_lt h')
        · exact .inr ⟨heq.trans h', by have := h.2 heq.symm; omega⟩

end IsFirstMin

/-- The carried pair `(m, b)`: the least value of `f` over the positions satisfying `S`, and the first
    position carrying it, as a real number. -/
def Best (f : ℕ → EReal) (S : ℕ → Prop) (m b : EReal) : Prop :=
  ∃ p, IsFirstMin f S p ∧ m = f p ∧ b = ((p : ℝ) : EReal)

namespace Best

variable {f : ℕ → EReal} {S T : ℕ → Prop} {m b m' b' : EReal}

/-- Positions as reals keep their order. -/
theorem natCast_lt (p q : ℕ) : (((p : ℝ) : EReal) < ((q : ℝ) : EReal)) ↔ p < q := by
  rw [EReal.coe_lt_coe_iff, Nat.cast_lt]

/-- The pair after one candidate, from a start no candidate's value reaches. -/
theorem start {n : ℕ} {z : EReal} (hn : f n < ⊤) :
    Best f (fun j => j = n) (min ⊤ (f n)) (if f n < ⊤ then ((n : ℝ) : EReal) else z) :=
  ⟨n, .single f n, by rw [min_eq_right le_top], by rw [if_pos hn]⟩

/-- The pair after one more, later, candidate. -/
theorem step (h : Best f S m b) {n : ℕ} (hn : ∀ j, S j → j < n) :
    Best f (fun j => S j ∨ j = n) (min m (f n)) (if f n < m then ((n : ℝ) : EReal) else b) := by
  obtain ⟨p, hp, rfl, rfl⟩ := h
  refine ⟨_, hp.step hn, ?_, ?_⟩
  · by_cases h : f n < f p
    · rw [if_pos h, min_eq_right h.le]
    · rw [if_neg h, min_eq_left (not_lt.1 h)]
  · split <;> rfl

/-- The pair over two groups of candidates. -/
theorem merge (h : Best f S m b) (h' : Best f T m' b') :
    Best f (fun j => S j ∨ T j) (min m m') (if m' < m ∨ (m' = m ∧ b' < b) then b' else b) := by
  obtain ⟨p, hp, rfl, rfl⟩ := h
  obtain ⟨q, hq, rfl, rfl⟩ := h'
  simp only [natCast_lt]
  refine ⟨_, hp.merge hq, ?_, ?_⟩
  · by_cases h : f q < f p ∨ (f q = f p ∧ q < p)
    · rw [if_pos h]
      rcases h with h | h
      · exact min_eq_right h.le
      · exact min_eq_right h.1.le
    · rw [if_neg h]
      rw [not_or] at h
      exact min_eq_left (not_lt.1 h.1)
  · split <;> rfl

/-- The same candidates, described another way. -/
theorem congr_set (h : Best f S m b) (hST : ∀ j, S j ↔ T j) : Best f T m b := by
  obtain ⟨p, hp, hm, hb⟩ := h
  exact ⟨p, hp.congr_set hST, hm, hb⟩

end Best

end Cert.Proof
-- ==== Proof.Words.lean ====
/- The float32 words the kernel writes small whole numbers with, and what they denote. -/
module

public import Idealize.ShloMosaic.PureOps.Ideal
public import Idealize.ShloMosaic.PureOps.Ideal.Laws

@[expose] public section

namespace Cert.Proof

open Idealize.ShloMosaic

/-- The float32 word of a whole number from 1 to 127: exponent field, then the digits below the leading one. -/
abbrev natWord (j : ℕ) : BitVec 32 := BitVec.ofNat 32 ((126 + Nat.log2 j) * 2 ^ 23 + j * 2 ^ (23 - Nat.log2 j))

/-- The three fields of those words. -/
theorem natWord_fields : ∀ j : Fin 127,
    (natWord (j.val + 1)).extractLsb' 31 1 = 0#1
    ∧ ((natWord (j.val + 1)).extractLsb' 23 8).toNat = 127 + Nat.log2 (j.val + 1)
    ∧ 2 ^ 23 + ((natWord (j.val + 1)).extractLsb' 0 23).toNat = (j.val + 1) * 2 ^ (23 - Nat.log2 (j.val + 1))
    ∧ Nat.log2 (j.val + 1) ≤ 6 := by decide +kernel

/-- The word of `j` denotes `j`. -/
theorem ofBits_natWord {j : ℕ} (h0 : 0 < j) (h1 : j < 128) : Ideal.ofBits .f32 (natWord j) = ((j : ℝ) : EReal) := by
  obtain ⟨hs, he, hf, hl⟩ := natWord_fields ⟨j - 1, by omega⟩
  simp only [Nat.sub_add_cancel (show 1 ≤ j by omega)] at hs he hf hl
  generalize natWord j = w at hs he hf
  generalize Nat.log2 j = e at he hf hl
  change Ideal.ieee 8 23 w = _
  unfold Ideal.ieee
  simp only [show 8 + 23 = 31 from rfl, hs, he, hf]
  rw [if_neg (by omega), if_neg (by omega)]
  rw [EReal.coe_eq_coe_iff]
  simp only [show ((0#1 : BitVec 1) == 1#1) = false from rfl, Bool.false_eq_true, if_false, one_mul]
  push_cast
  rw [mul_assoc, ← zpow_natCast, ← zpow_add₀ (two_ne_zero)]
  have : ((23 - e : ℕ) : ℤ) + (127 + (e : ℤ) - 127 - 23) = 0 := by omega
  rw [this, zpow_zero, mul_one]

/-- The words of 8 and of 1024. -/
theorem ofBits_eight : Ideal.ofBits .f32 0x41000000#32 = ((8 : ℝ) : EReal) := by
  exact_mod_cast ofBits_natWord (j := 8) (by decide) (by decide)

theorem ofBits_1024 : Ideal.ofBits .f32 0x44800000#32 = ((1024 : ℝ) : EReal) := by
  simp [Ideal.ofBits, Ideal.ieee, -EReal.coe_mul]; norm_num

/-- The words of infinity, of minus two and of two. -/
theorem ofBits_inf : Ideal.ofBits .f32 0x7F800000#32 = ⊤ := by simp [Ideal.ofBits, Ideal.ieee]

theorem ofBits_neg_two : Ideal.ofBits .f32 0xC0000000#32 = ((-2 : ℝ) : EReal) := by
  simp [Ideal.ofBits, Ideal.ieee, -EReal.coe_mul]; norm_num

theorem ofBits_two : Ideal.ofBits .f32 0x40000000#32 = ((2 : ℝ) : EReal) := by
  exact_mod_cast ofBits_natWord (j := 2) (by decide) (by decide)

/-- A natural number below 2³¹ converts to the word of that number. -/
theorem fptosi_natCast {n : ℕ} (h : n < 2 ^ 31) : Ideal.fptosi 32 ((n : ℝ) : EReal) = BitVec.ofNat 32 n := by
  unfold Ideal.fptosi
  rw [Ideal.toIntClamped_coe, if_pos (Nat.cast_nonneg n), Int.floor_natCast, min_eq_right (by push_cast; omega),
    max_eq_right (by push_cast; omega), BitVec.ofInt_natCast]

end Cert.Proof
-- ==== Proof.Stripe.lean ====
/- One chunk of 1024 columns: the kernel goes through the 1024 codes in 128 slabs of 8 rows, dealt to four
   stripes, and each stripe carries, per row of the slab and column, the least value met and the first slab
   it was met in. -/
module

public import Idealize.ShloMosaic.Lib.Pipeline.Value
public import Idealize.ShloMosaic.Lib.ValueIdx
public import proofs.«01_k».proof.Proof.Gen.KernelIdeal.Skeleton
public import proofs.«01_k».proof.Proof.LexMin
public import proofs.«01_k».proof.Proof.Words

@[expose] public section

set_option maxRecDepth 16384

noncomputable section

namespace Cert.Proof

open Idealize.ShloMosaic Idealize.ShloMosaic.ValueIdx Cert.KernelIdeal

variable {cross : FVec Ideal S1024x1024 .f32} {wsq : FVec Ideal S1024x1 .f32}

/-- The value of code `n` in column `l`: its product with the column plus its squared length. -/
def dist (cross : FVec Ideal S1024x1024 .f32) (wsq : FVec Ideal S1024x1 .f32) (l : Fin 1024) (n : ℕ) : EReal :=
  if h : n < 1024 then cross (ix2 ⟨n, h⟩ l) + wsq (ix2 ⟨n, h⟩ (0 : Fin 1)) else ⊤

/-- The slab of 8 codes starting at code `8 * j`, over all columns, read at one element. -/
theorem slab_apply (j : ℕ) (h1 : S1024x1024.Slices ![8 * j, 0] S8x1024) (h2 : S1024x1.Slices ![8 * j, 0] S8x1)
    (h3 : S8x1.Broadcasts S8x1024) (s : Fin 8) (l : Fin 1024) :
    addf (extractStridedSlice S8x1024 ![8 * j, 0] cross h1)
      (broadcastTo S8x1024 (extractStridedSlice S8x1 ![8 * j, 0] wsq h2) h3) (ix2 s l)
      = dist cross wsq l (8 * j + s.val) := by
  have hb : 8 * j + s.val < 1024 := by
    have h := h1.2 0
    have h' : 8 * j + 8 ≤ 1024 := h
    omega
  rw [addf_apply, dist, dif_pos hb]
  congr 1
  · exact extractStridedSlice_apply _ _ _ _ _ fun a => by
      match a with
      | ⟨0, _⟩ => rfl
      | ⟨1, _⟩ => exact (Nat.zero_add _).symm
  · rw [broadcastTo_apply _ h3 (ix2 s l) (ix2 s (0 : Fin 1)) fun a => by
      match a with
      | ⟨0, _⟩ => rfl
      | ⟨1, _⟩ => rfl]
    exact extractStridedSlice_apply _ _ _ _ _ fun a => by
      match a with
      | ⟨0, _⟩ => rfl
      | ⟨1, _⟩ => rfl

/-- The state of one stripe after slab `k`: at each element the least value of the slabs up to `k` dealt to
    `k`'s stripe, and the first of those slabs carrying it. -/
def Stripe (cross : FVec Ideal S1024x1024 .f32) (wsq : FVec Ideal S1024x1 .f32) (k : ℕ)
    (m b : FVec Ideal S8x1024 .f32) : Prop :=
  ∀ (s : Fin 8) (l : Fin 1024),
    Best (fun j => dist cross wsq l (8 * j + s.val)) (fun j => j ≤ k ∧ j % 4 = k % 4) (m (ix2 s l)) (b (ix2 s l))

/-- A comparison's bit chooses between two values. -/
theorem select_lt (x y u v : EReal) : Scalar.select (Ideal.cmp .olt x y) u v = if x < y then u else v := by
  by_cases h : x < y <;> simp [Ideal.cmp, Scalar.select, h]

/-- One select of the kernel, read at an element. -/
theorem select_olt_apply (a m b c : FVec Ideal S8x1024 .f32) (i : S8x1024.Idx) :
    select (cmpf .olt a m) b c i = if a i < m i then b i else c i := by
  rw [select_apply, cmpf_apply]
  exact select_lt _ _ _ _

/-- The first slab of a stripe, taken from a start at infinity. `z` is what the position started at. -/
theorem Stripe.start {k : ℕ} (hk : k < 4) {w : BitVec 32} (hw : Ideal.ofBits .f32 w = ((k : ℝ) : EReal))
    {h1 : S1024x1024.Slices ![8 * k, 0] S8x1024} {h2 : S1024x1.Slices ![8 * k, 0] S8x1}
    {h3 : S8x1.Broadcasts S8x1024} {z : FVec Ideal S8x1024 .f32}
    (hfin : ∀ l n, n < 1024 → dist cross wsq l n < ⊤) :
    Stripe cross wsq k
      (minimumf (broadcast S8x1024 (Named.named (F := Ideal) κ "big" 0x7F61B1E6#32))
        (addf (extractStridedSlice S8x1024 ![8 * k, 0] cross h1)
          (broadcastTo S8x1024 (extractStridedSlice S8x1 ![8 * k, 0] wsq h2) h3)))
      (select (cmpf .olt
          (addf (extractStridedSlice S8x1024 ![8 * k, 0] cross h1)
            (broadcastTo S8x1024 (extractStridedSlice S8x1 ![8 * k, 0] wsq h2) h3))
          (broadcast S8x1024 (Named.named (F := Ideal) κ "big" 0x7F61B1E6#32)))
        (broadcast S8x1024 (Scalar.ofBits (F := Ideal) .f32 w)) z) := by
  intro s l
  rw [minimumf_apply, select_olt_apply, slab_apply, broadcast_apply, broadcast_apply]
  rw [show (Named.named (F := Ideal) (φ := .f32) κ "big" 0x7F61B1E6#32) = (⊤ : EReal) from
    IdealRules.named_const.ideal_named_scalar _ _ _ _ rfl]
  rw [show Scalar.ofBits (F := Ideal) .f32 w = ((k : ℝ) : EReal) from hw]
  refine Best.congr_set (Best.start (f := fun j => dist cross wsq l (8 * j + s.val)) (n := k) (hfin l _ (by omega))) ?_
  intro j
  omega

/-- The first slab of stripe 0. -/
theorem Stripe.first
    {h1 : S1024x1024.Slices ![8 * 0, 0] S8x1024} {h2 : S1024x1.Slices ![8 * 0, 0] S8x1}
    {h3 : S8x1.Broadcasts S8x1024} {z : FVec Ideal S8x1024 .f32}
    (hfin : ∀ l n, n < 1024 → dist cross wsq l n < ⊤) :
    Stripe cross wsq 0
      (minimumf (broadcast S8x1024 (Named.named (F := Ideal) κ "big" 0x7F61B1E6#32))
      (addf (extractStridedSlice S8x1024 ![8 * 0, 0] cross h1)
        (broadcastTo S8x1024 (extractStridedSlice S8x1 ![8 * 0, 0] wsq h2) h3)))
      (select (cmpf .olt
      (addf (extractStridedSlice S8x1024 ![8 * 0, 0] cross h1)
        (broadcastTo S8x1024 (extractStridedSlice S8x1 ![8 * 0, 0] wsq h2) h3))
          (broadcast S8x1024 (Named.named (F := Ideal) κ "big" 0x7F61B1E6#32)))
        (broadcast S8x1024 (Scalar.ofBits (F := Ideal) .f32 0x00000000#32)) z) :=
  Stripe.start (k := 0) (by decide) (by simp) hfin

/-- The first slab of stripes 1, 2 and 3. -/
theorem Stripe.later {k : ℕ} (hk : k + 1 < 4)
    {h1 : S1024x1024.Slices ![8 * (k + 1), 0] S8x1024} {h2 : S1024x1.Slices ![8 * (k + 1), 0] S8x1}
    {h3 : S8x1.Broadcasts S8x1024} {z : FVec Ideal S8x1024 .f32}
    (hfin : ∀ l n, n < 1024 → dist cross wsq l n < ⊤) :
    Stripe cross wsq (k + 1)
      (minimumf (broadcast S8x1024 (Named.named (F := Ideal) κ "big" 0x7F61B1E6#32))
      (addf (extractStridedSlice S8x1024 ![8 * (k + 1), 0] cross h1)
        (broadcastTo S8x1024 (extractStridedSlice S8x1 ![8 * (k + 1), 0] wsq h2) h3)))
      (select (cmpf .olt
      (addf (extractStridedSlice S8x1024 ![8 * (k + 1), 0] cross h1)
        (broadcastTo S8x1024 (extractStridedSlice S8x1 ![8 * (k + 1), 0] wsq h2) h3))
          (broadcast S8x1024 (Named.named (F := Ideal) κ "big" 0x7F61B1E6#32)))
        (broadcast S8x1024 (Scalar.ofBits (F := Ideal) .f32 (natWord (k + 1)))) z) :=
  Stripe.start hk (ofBits_natWord (by omega) (by omega)) hfin

/-- The next slab of a stripe. -/
theorem Stripe.step {k : ℕ} {m b : FVec Ideal S8x1024 .f32}
    {h1 : S1024x1024.Slices ![8 * (k + 4), 0] S8x1024} {h2 : S1024x1.Slices ![8 * (k + 4), 0] S8x1}
    {h3 : S8x1.Broadcasts S8x1024} (h : Stripe cross wsq k m b) :
    Stripe cross wsq (k + 4)
      (minimumf m
        (addf (extractStridedSlice S8x1024 ![8 * (k + 4), 0] cross h1)
          (broadcastTo S8x1024 (extractStridedSlice S8x1 ![8 * (k + 4), 0] wsq h2) h3)))
      (select (cmpf .olt
          (addf (extractStridedSlice S8x1024 ![8 * (k + 4), 0] cross h1)
            (broadcastTo S8x1024 (extractStridedSlice S8x1 ![8 * (k + 4), 0] wsq h2) h3)) m)
        (broadcast S8x1024 (Scalar.ofBits (F := Ideal) .f32 (natWord (k + 4)))) b) := by
  intro s l
  have hb : 8 * (k + 4) + 8 ≤ 1024 := h1.2 0
  rw [minimumf_apply, select_olt_apply, slab_apply, broadcast_apply]
  rw [show Scalar.ofBits (F := Ideal) .f32 (natWord (k + 4)) = (((k + 4 : ℕ) : ℝ) : EReal) from
    ofBits_natWord (by omega) (by omega)]
  refine Best.congr_set (Best.step (h s l) (n := k + 4) fun j hj => by omega) ?_
  intro j
  omega

attribute [irreducible] Stripe

end Cert.Proof
-- ==== Proof.Answer.lean ====
/- One chunk's answer: the four stripes are merged into one pair per row of a slab, the eight rows are
   reduced to one, and what is stored for a column is the first code with the least value. -/
module

public import Idealize.ShloMosaic.Lib.ValueLayout
public import proofs.«01_k».proof.Proof.Stripe

@[expose] public section

set_option maxRecDepth 16384

noncomputable section

namespace Cert.Proof

open Idealize.ShloMosaic Idealize.ShloMosaic.ValueIdx Cert.KernelIdeal

variable {cross : FVec Ideal S1024x1024 .f32} {wsq : FVec Ideal S1024x1 .f32}

/-- The answer of a chunk: for every column the word of the first code with the least value. -/
def Answers (cross : FVec Ideal S1024x1024 .f32) (wsq : FVec Ideal S1024x1 .f32) (r : IVec S1x1024 32) : Prop :=
  ∀ l : Fin 1024, ∃ n, IsFirstMin (dist cross wsq l) (fun j => j < 1024) n ∧ r (ix2 (0 : Fin 1) l) = BitVec.ofNat 32 n

/-- The pair of a group of slabs: the least value of those slabs at each element and the first slab carrying it. -/
def Group (cross : FVec Ideal S1024x1024 .f32) (wsq : FVec Ideal S1024x1 .f32) (S : ℕ → Prop)
    (m b : FVec Ideal S8x1024 .f32) : Prop :=
  ∀ (s : Fin 8) (l : Fin 1024), Best (fun j => dist cross wsq l (8 * j + s.val)) S (m (ix2 s l)) (b (ix2 s l))

/-- A stripe's state is the pair of its slabs. -/
theorem Stripe.group {k : ℕ} {m b : FVec Ideal S8x1024 .f32} (h : Stripe cross wsq k m b) :
    Group cross wsq (fun j => j ≤ k ∧ j % 4 = k % 4) m b := by
  unfold Stripe at h
  exact h

/-- The position kept when the pair `(m', b')` is merged into `(m, b)`. -/
abbrev mergePos (m b m' b' : FVec Ideal S8x1024 .f32) : FVec Ideal S8x1024 .f32 :=
  select (ori (cmpf .olt m' m) (andi (cmpf .oeq m' m) (cmpf .olt b' b))) b' b

/-- That choice at one element. -/
theorem mergePos_apply (m b m' b' : FVec Ideal S8x1024 .f32) (i : S8x1024.Idx) :
    mergePos m b m' b' i = if m' i < m i ∨ (m' i = m i ∧ b' i < b i) then b' i else b i := by
  change Scalar.select (IntOp.ori (Ideal.cmp .olt (m' i) (m i))
    (IntOp.andi (Ideal.cmp .oeq (m' i) (m i)) (Ideal.cmp .olt (b' i) (b i)))) (b' i) (b i) = _
  by_cases h1 : m' i < m i <;> by_cases h2 : m' i = m i <;> by_cases h3 : b' i < b i <;>
    simp [Ideal.cmp, Scalar.select, IntOp.ori, IntOp.andi, h1, h2, h3]

/-- Two groups' pairs merged. -/
theorem Group.merge {S T : ℕ → Prop} {m b m' b' : FVec Ideal S8x1024 .f32} (h : Group cross wsq S m b)
    (h' : Group cross wsq T m' b') :
    Group cross wsq (fun j => S j ∨ T j) (minimumf m m') (mergePos m b m' b') := by
  intro s l
  rw [minimumf_apply, mergePos_apply]
  exact (h s l).merge (h' s l)

/-- A minimum over the eight rows. -/
theorem rowMin_apply (x : FVec Ideal S8x1024 .f32) (h : S8x1024.Reduces [0] S1024)
    (hφ : FKind.Formats .f32) (hacc : (0x7F800000#32 : BitVec 32) = FKind.minimumf.neutral .f32 hφ) (l : Fin 1024) :
    multiReduction .minimumf [0] S1024 x 0x7F800000#32 h hφ hacc (ix1 l)
      = (Finset.univ : Finset (Fin 8)).inf fun s => x (ix2 s l) := by
  rw [multiReduction_minimumf_eq_fold]
  refine (h.fold_filter_drop_single _ _ x (ix1 l)).trans ?_
  rw [show FloatOps.ofBits (F := Ideal) .f32 0x7F800000#32 = (⊤ : EReal) from ofBits_inf]
  rw [show (x ∘ h.lift (ix1 l)) = fun s : Fin 8 => x (ix2 s l) from funext fun s => congrArg x (funext fun a => by
    match a with
    | ⟨0, _⟩ => rfl
    | ⟨1, _⟩ => rfl)]
  rfl

/-- What a chunk stores, from the merged pair and the row numbers `rows`. -/
abbrev finish (rows m b : FVec Ideal S8x1024 .f32) (h1 : S8x1024.Reduces [0] S1024) (h2 : S1024.ShapeCasts S1x1024)
    (h3 : S1x1024.Broadcasts S8x1024) (hφ : FKind.Formats .f32)
    (hacc : (0x7F800000#32 : BitVec 32) = FKind.minimumf.neutral .f32 hφ) : IVec S1x1024 32 :=
  shapeCast S1x1024 (fptosi 32 (multiReduction .minimumf [0] S1024
    (select (cmpf .oeq m (broadcastTo S8x1024 (shapeCast S1x1024
        (multiReduction .minimumf [0] S1024 m 0x7F800000#32 h1 hφ hacc) h2) h3))
      (addf (mulf b (broadcast S8x1024 (Scalar.ofBits (F := Ideal) .f32 0x41000000#32))) rows)
      (broadcast S8x1024 (Scalar.ofBits (F := Ideal) .f32 0x44800000#32)))
    0x7F800000#32 h1 hφ hacc)) h2

/-- The chunk's store at a column, over the reals it is computed from. -/
theorem finish_apply (rows m b : FVec Ideal S8x1024 .f32) (h1 : S8x1024.Reduces [0] S1024) (h2 : S1024.ShapeCasts S1x1024)
    (h3 : S1x1024.Broadcasts S8x1024) (hφ : FKind.Formats .f32)
    (hacc : (0x7F800000#32 : BitVec 32) = FKind.minimumf.neutral .f32 hφ) (hrows : ∀ (s : Fin 8) (l : Fin 1024), rows (ix2 s l) = ((s.val : ℝ) : EReal))
    (l : Fin 1024) :
    finish rows m b h1 h2 h3 hφ hacc (ix2 (0 : Fin 1) l)
      = Ideal.fptosi 32 ((Finset.univ : Finset (Fin 8)).inf fun s =>
          if m (ix2 s l) = (Finset.univ : Finset (Fin 8)).inf (fun s => m (ix2 s l))
          then b (ix2 s l) * ((8 : ℝ) : EReal) + ((s.val : ℝ) : EReal) else ((1024 : ℝ) : EReal)) := by
  refine (shapeCast_a_1a_apply _ h2 _ l).trans ?_
  change Ideal.fptosi 32 _ = _
  rw [rowMin_apply]
  refine congrArg (Ideal.fptosi 32) (congrArg _ (funext fun s => ?_))
  rw [select_apply, cmpf_apply, addf_apply, mulf_apply, hrows, broadcastTo_1b_ab_apply, shapeCast_a_1a_apply, rowMin_apply,
    broadcast_apply, broadcast_apply,
    show Scalar.ofBits (F := Ideal) .f32 0x41000000#32 = ((8 : ℝ) : EReal) from ofBits_eight,
    show Scalar.ofBits (F := Ideal) .f32 0x44800000#32 = ((1024 : ℝ) : EReal) from ofBits_1024]
  generalize (Finset.univ : Finset (Fin 8)).inf (fun s => m (ix2 s l)) = mm
  change Scalar.select (Ideal.cmp .oeq (m (ix2 s l)) mm) _ _ = _
  by_cases h : m (ix2 s l) = mm <;> simp [Ideal.cmp, Scalar.select, h]

/-- The least of the eight rows' pairs, first code first, is the first minimum over all 1024 codes. -/
theorem firstMin_of_rows (f : ℕ → EReal) (m b : Fin 8 → EReal)
    (h : ∀ s : Fin 8, Best (fun j => f (8 * j + s.val)) (fun j => j < 128) (m s) (b s)) :
    ∃ n, IsFirstMin f (fun j => j < 1024) n
      ∧ ((Finset.univ : Finset (Fin 8)).inf fun s =>
          if m s = (Finset.univ : Finset (Fin 8)).inf m
          then b s * ((8 : ℝ) : EReal) + ((s.val : ℝ) : EReal) else ((1024 : ℝ) : EReal)) = ((n : ℝ) : EReal) := by
  choose p hp hm hb using h
  have hE : ∀ s : Fin 8, b s * ((8 : ℝ) : EReal) + ((s.val : ℝ) : EReal) = (((8 * p s + s.val : ℕ) : ℝ) : EReal) := by
    intro s
    rw [hb, ← EReal.coe_mul, ← EReal.coe_add]
    push_cast
    rw [mul_comm]
  simp only [hE]
  obtain ⟨t, -, ht⟩ := Finset.exists_mem_eq_inf (Finset.univ : Finset (Fin 8)) Finset.univ_nonempty m
  have hle : ∀ s, (Finset.univ : Finset (Fin 8)).inf m ≤ m s := fun s => Finset.inf_le (Finset.mem_univ s)
  generalize (Finset.univ : Finset (Fin 8)).inf m = mm at ht hle
  obtain ⟨s, -, hs⟩ := Finset.exists_mem_eq_inf (Finset.univ : Finset (Fin 8)) Finset.univ_nonempty
    (fun s => if m s = mm then (((8 * p s + s.val : ℕ) : ℝ) : EReal) else ((1024 : ℝ) : EReal))
  have hcle : ∀ u, (if m s = mm then (((8 * p s + s.val : ℕ) : ℝ) : EReal) else ((1024 : ℝ) : EReal))
      ≤ if m u = mm then (((8 * p u + u.val : ℕ) : ℝ) : EReal) else ((1024 : ℝ) : EReal) := fun u => by
    refine le_trans hs.ge ?_
    exact Finset.inf_le (f := fun s => if m s = mm then (((8 * p s + s.val : ℕ) : ℝ) : EReal) else ((1024 : ℝ) : EReal))
      (Finset.mem_univ u)
  have hms : m s = mm := by
    by_contra hne
    have hc := hcle t
    rw [if_neg hne, if_pos ht.symm, EReal.coe_le_coe_iff] at hc
    have hc' : (1024 : ℕ) ≤ 8 * p t + t.val := by exact_mod_cast hc
    have := (hp t).1
    omega
  rw [hs, if_pos hms]
  refine ⟨8 * p s + s.val, ⟨by have := (hp s).1; omega, fun j hj => ?_⟩, rfl⟩
  have hj' : 8 * (j / 8) + (j % 8) = j := Nat.div_add_mod j 8
  have hfs : f (8 * p s + s.val) = mm := by rw [← hms]; exact (hm s).symm
  have hu := (hp ⟨j % 8, by omega⟩).2 (j / 8) (by omega)
  have hmu := hm ⟨j % 8, by omega⟩
  have hcu := hcle ⟨j % 8, by omega⟩
  have hlu := hle ⟨j % 8, by omega⟩
  simp only [hj'] at hu
  rw [hfs]
  rcases hlu.lt_or_eq with hlt | heq
  · refine .inl (hlt.trans_le ?_)
    rw [hmu]
    rcases hu with hu | hu
    · exact hu.le
    · exact hu.1.le
  · rcases hu with hu | hu
    · exact .inl (by rw [heq, hmu]; exact hu)
    · refine .inr ⟨by rw [heq, hmu]; exact hu.1, ?_⟩
      rw [if_pos hms, if_pos heq.symm, EReal.coe_le_coe_iff] at hcu
      have hcu' : 8 * p s + s.val ≤ 8 * p ⟨j % 8, by omega⟩ + j % 8 := by exact_mod_cast hcu
      have h2 : p ⟨j % 8, by omega⟩ ≤ j / 8 := hu.2
      omega

/-- The chunk's answer from its four stripes' last states. -/
theorem answers_of_stripes {rows m0 b0 m1 b1 m2 b2 m3 b3 : FVec Ideal S8x1024 .f32}
    {h1 : S8x1024.Reduces [0] S1024} {h2 : S1024.ShapeCasts S1x1024} {h3 : S1x1024.Broadcasts S8x1024} {hφ : FKind.Formats .f32}
    {hacc : (0x7F800000#32 : BitVec 32) = FKind.minimumf.neutral .f32 hφ}
    (hrows : ∀ (s : Fin 8) (l : Fin 1024), rows (ix2 s l) = ((s.val : ℝ) : EReal))
    (q0 : Stripe cross wsq 124 m0 b0) (q1 : Stripe cross wsq 125 m1 b1) (q2 : Stripe cross wsq 126 m2 b2)
    (q3 : Stripe cross wsq 127 m3 b3) :
    Answers cross wsq (finish rows (minimumf (minimumf (minimumf m0 m1) m2) m3)
      (mergePos (minimumf (minimumf m0 m1) m2) (mergePos (minimumf m0 m1) (mergePos m0 b0 m1 b1) m2 b2) m3 b3) h1 h2 h3 hφ hacc) := by
  have hg := Group.merge (Group.merge (Group.merge q0.group q1.group) q2.group) q3.group
  intro l
  rw [finish_apply _ _ _ _ _ _ _ _ hrows]
  obtain ⟨n, hn, hv⟩ := firstMin_of_rows (dist cross wsq l) (fun s => _) (fun s => _)
    (fun s => (hg s l).congr_set (T := fun j => j < 128) fun j => by omega)
  refine ⟨n, hn, ?_⟩
  rw [hv]
  exact fptosi_natCast (by have := hn.1; omega)

/-- The row numbers the kernel adds: 0 to 7 down each column. -/
theorem rows_apply (h : S8x1024.Iotas .tc 32 [0]) (s : Fin 8) (l : Fin 1024) :
    sitofp (F := Ideal) .f32 (iota .tc S8x1024 32 [0] h) (ix2 s l) = ((s.val : ℝ) : EReal) := by
  rw [sitofp_apply, iota_single_apply]
  change (((BitVec.ofNat 32 s.val).toInt : ℝ) : EReal) = _
  have hn : (BitVec.ofNat 32 s.val).toNat = s.val := by
    rw [BitVec.toNat_ofNat]
    exact Nat.mod_eq_of_lt (by omega)
  rw [BitVec.toInt_eq_toNat_of_lt (by omega), hn]
  norm_cast

end Cert.Proof
-- ==== Proof.Chunk.lean ====
/- What one run of the kernel body stores, chunk by chunk. -/
module

public import proofs.«01_k».proof.Proof.Gen.KernelIdeal.Frame
public import proofs.«01_k».proof.Proof.Answer

@[expose] public section

set_option maxRecDepth 16384

noncomputable section

namespace Cert.Proof

open Idealize.ShloMosaic Idealize.ShloMosaic.ValueIdx Cert.KernelIdeal Cert.KernelIdeal.Gen

set_option maxHeartbeats 4000000 in
/-- The body's four stores, the last chunk's first: each holds its chunk's answer, provided no value of the
    chunk is infinite. -/
theorem chunks (x0 : Vec Ideal S64x4096 .f32) (x1 : Vec Ideal S1024x64 .f32)
    (g0 : ∀ l n, n < 1024 → dist (k0_pay1443 x0 x1) (k0_pay1441 x0 x1) l n < ⊤)
    (g1 : ∀ l n, n < 1024 → dist (k0_pay1539 x0 x1) (k0_pay1441 x0 x1) l n < ⊤)
    (g2 : ∀ l n, n < 1024 → dist (k0_pay1635 x0 x1) (k0_pay1441 x0 x1) l n < ⊤)
    (g3 : ∀ l n, n < 1024 → dist (k0_pay1735 x0 x1) (k0_pay1441 x0 x1) l n < ⊤) :
    ∃ p3 p2 p1 p0, out0_2 x0 x1 = View.canon [⟨r0_8, p3⟩, ⟨r0_6, p2⟩, ⟨r0_4, p1⟩, ⟨r0_2, p0⟩]
      ∧ Answers (k0_pay1735 x0 x1) (k0_pay1441 x0 x1) p3 ∧ Answers (k0_pay1635 x0 x1) (k0_pay1441 x0 x1) p2
      ∧ Answers (k0_pay1539 x0 x1) (k0_pay1441 x0 x1) p1 ∧ Answers (k0_pay1443 x0 x1) (k0_pay1441 x0 x1) p0 := by
  refine ⟨_, _, _, _, rfl, ?_, ?_, ?_, ?_⟩
  all_goals refine answers_of_stripes (rows_apply _) ?_ ?_ ?_ ?_
  all_goals repeat (first
    | refine Stripe.step (h1 := by decide) ?_
    | exact Stripe.later (by decide) (h1 := by decide) (by assumption)
    | exact Stripe.first (h1 := by decide) (by assumption))

end Cert.Proof
-- ==== Proof.Scores.lean ====
/- The value a chunk compares the codes by, over finite inputs: a real number. -/
module

public import Idealize.ShloMosaic.Lib.MatmulPlain
public import Idealize.ShloMosaic.Lib.ValueLayoutCasts
public import proofs.«01_k».proof.Proof.Answer

@[expose] public section

set_option maxRecDepth 16384

noncomputable section

namespace Cert.Proof

open Idealize.ShloMosaic Idealize.ShloMosaic.ValueIdx Cert.KernelIdeal Cert.KernelIdeal.Gen

/-- The score of code `n` against a column: its squared length less twice its product with the column. -/
def score (w : Fin 1024 → Fin 64 → ℝ) (zc : Fin 64 → ℝ) (n : Fin 1024) : ℝ :=
  (∑ k, w n k * w n k) - 2 * ∑ k, zc k * w n k

/-- A finite sum of reals, as an extended real. -/
theorem coe_sum {n : ℕ} (f : Fin n → ℝ) : (∑ k, ((f k : ℝ) : EReal)) = ((∑ k, f k : ℝ) : EReal) :=
  (map_sum (⟨⟨Real.toEReal, EReal.coe_zero⟩, EReal.coe_add⟩ : ℝ →+ EReal) f Finset.univ).symm

/-- The index a row sum reads: the row's, with the summed coordinate put in. -/
theorem lift_row {r c : ℕ} (h : Shape.Reduces ⟨2, ![r, c]⟩ [1] ⟨1, ![r]⟩) (n : Fin r) (k : Fin c) :
    h.lift (ix1 n) k = ix2 n k := funext fun a => by
  match a with
  | ⟨0, _⟩ => rfl
  | ⟨1, _⟩ => rfl

/-- The kernel's squared lengths. -/
theorem pay3_apply (v0 : Vec Ideal S1024x64 .f32) (n : Fin 1024) :
    k0_pay3 (F := Ideal) v0 (ix2 n (0 : Fin 1)) = ∑ k : Fin 64, v0 (ix2 n k) * v0 (ix2 n k) := by
  unfold k0_pay3
  refine (shapeCast_a_a1_apply _ _ n (0 : Fin 1)).trans ?_
  refine (Ideal.multiReduction_add_single (mulf v0 v0) _ _ _ _ (ix1 n)).trans ?_
  exact Finset.sum_congr rfl fun k _ => congrArg (fun i => v0 i * v0 i) (lift_row _ n k)

/-- The kernel's products of the codes, times minus two, with the columns. -/
theorem pay5_apply (v0 : Vec Ideal S1024x64 .f32) (v8 : Vec Ideal S64x1024 .f32) (n l : Fin 1024) :
    k0_pay5 (F := Ideal) v0 v8 (ix2 n l) = ∑ k : Fin 64, (((-2 : ℝ) : EReal) * v0 (ix2 n k)) * v8 (ix2 k l) := by
  unfold k0_pay5
  refine (Ideal.matmul_plain_apply (M := 1024) (K := 64) (N := 1024) none _ _ _ n l).trans ?_
  rw [constant_apply, Ideal.ofBits_zero_f32, zero_add]
  refine Finset.sum_congr rfl fun k _ => ?_
  rw [shapeCast_self]
  unfold k0_pay2
  rw [mulf_apply, broadcast_apply, show Scalar.ofBits (F := Ideal) .f32 0xC0000000#32 = ((-2 : ℝ) : EReal) from ofBits_neg_two]

/-- Over finite inputs the kernel compares the codes by their scores. -/
theorem dist_eq_score {v0 : Vec Ideal S1024x64 .f32} {v8 : Vec Ideal S64x1024 .f32} {w : Fin 1024 → Fin 64 → ℝ}
    {zc : Fin 64 → ℝ} {l : Fin 1024} (hw : ∀ n k, v0 (ix2 n k) = ((w n k : ℝ) : EReal))
    (hz : ∀ k, v8 (ix2 k l) = ((zc k : ℝ) : EReal)) {n : ℕ} (hn : n < 1024) :
    dist (k0_pay5 v0 v8) (k0_pay3 v0) l n = ((score w zc ⟨n, hn⟩ : ℝ) : EReal) := by
  rw [dist, dif_pos hn, pay5_apply, pay3_apply]
  simp only [hw, hz, ← EReal.coe_mul]
  rw [coe_sum, coe_sum, ← EReal.coe_add, score]
  congr 1
  rw [add_comm, sub_eq_add_neg, ← neg_mul, Finset.mul_sum]
  congr 1
  exact Finset.sum_congr rfl fun k _ => by ring

end Cert.Proof
-- ==== Proof.Block.lean ====
/- What one grid point writes over finite inputs: for each of its 4096 columns the word of the code nearest to it. -/
module

public import Idealize.ShloMosaic.Lib.Pipeline.ValueKit.Tiles
public import proofs.«01_k».proof.Proof.Chunk
public import proofs.«01_k».proof.Proof.Scores

@[expose] public section

set_option maxRecDepth 16384

noncomputable section

namespace Cert.Proof

open Idealize.ShloMosaic Idealize.ShloMosaic.ValueIdx Cert.KernelIdeal Cert.KernelIdeal.Gen

/-- The scores of the codes as a function of the position, infinite past the last code. -/
def scoreAt (w : Fin 1024 → Fin 64 → ℝ) (zc : Fin 64 → ℝ) (n : ℕ) : EReal :=
  if h : n < 1024 then ((score w zc ⟨n, h⟩ : ℝ) : EReal) else ⊤

/-- The word `v` names the code with the least score for the column, the first of them if several have it. -/
def Nearest (w : Fin 1024 → Fin 64 → ℝ) (zc : Fin 64 → ℝ) (v : BitVec 32) : Prop :=
  ∃ n, IsFirstMin (scoreAt w zc) (fun j => j < 1024) n ∧ v = BitVec.ofNat 32 n

/-- Only one word does. -/
theorem Nearest.unique {w : Fin 1024 → Fin 64 → ℝ} {zc : Fin 64 → ℝ} {v v' : BitVec 32} (h : Nearest w zc v)
    (h' : Nearest w zc v') : v = v' := by
  obtain ⟨n, hn, rfl⟩ := h
  obtain ⟨n', hn', rfl⟩ := h'
  rw [hn.unique hn']

section Column

variable {v0 : Vec Ideal S1024x64 .f32} {v8 : Vec Ideal S64x1024 .f32} {w : Fin 1024 → Fin 64 → ℝ}
  {zc : Fin 1024 → Fin 64 → ℝ}

/-- Over finite inputs no value of a chunk is infinite. -/
theorem dist_lt_top (hw : ∀ n k, v0 (ix2 n k) = ((w n k : ℝ) : EReal))
    (hz : ∀ l k, v8 (ix2 k l) = ((zc l k : ℝ) : EReal)) (l : Fin 1024) (n : ℕ) (hn : n < 1024) :
    dist (k0_pay5 v0 v8) (k0_pay3 v0) l n < ⊤ := by
  rw [dist_eq_score hw (hz l) hn]
  exact EReal.coe_lt_top _

/-- A chunk's answer names the nearest code of each of its columns. -/
theorem Answers.nearest {r : IVec S1x1024 32} (h : Answers (k0_pay5 v0 v8) (k0_pay3 v0) r)
    (hw : ∀ n k, v0 (ix2 n k) = ((w n k : ℝ) : EReal)) (hz : ∀ l k, v8 (ix2 k l) = ((zc l k : ℝ) : EReal))
    (l : Fin 1024) : Nearest w (zc l) (r (ix2 (0 : Fin 1) l)) := by
  obtain ⟨n, hn, e⟩ := h l
  refine ⟨n, hn.of_order fun i j hi hj => ?_, e⟩
  rw [dist_eq_score hw (hz l) hi, dist_eq_score hw (hz l) hj, scoreAt, scoreAt, dif_pos hi, dif_pos hj]

end Column

section Block

variable {x0 : Vec Ideal S64x4096 .f32} {x1 : Vec Ideal S1024x64 .f32} {w : Fin 1024 → Fin 64 → ℝ}
  {zb : Fin 4096 → Fin 64 → ℝ}

/-- Column `l` of the chunk that starts at column `o` of the block. -/
def shift (o : ℕ) (ho : o + 1024 ≤ 4096) (l : Fin 1024) : Fin 4096 := ⟨o + l.val, by omega⟩

/-- The codes as the body loads them. -/
theorem ld_codes (hw : ∀ n k, x1 (ix2 n k) = ((w n k : ℝ) : EReal)) (n : Fin 1024) (k : Fin 64) :
    View.ld x1 r0_0 (ix2 n k) = ((w n k : ℝ) : EReal) :=
  (View.ld_unit_apply_of x1 _ _ _ _ (ix2 n k) fun a => by
    match a with
    | ⟨0, _⟩ => exact (Nat.zero_add _).symm
    | ⟨1, _⟩ => exact (Nat.zero_add _).symm).trans (hw n k)

/-- The columns of a chunk as the body loads them. -/
theorem ld_columns (hz : ∀ q k, x0 (ix2 k q) = ((zb q k : ℝ) : EReal)) (o : ℕ) (ho : o + 1024 ≤ 4096)
    (inb : ∀ a, (![0, o] : Fin 2 → ℕ) a + S64x1024.size a ≤ S64x4096.size a) (l : Fin 1024) (k : Fin 64) :
    View.ld x0 (Rect.unit (s := S64x4096) ![0, o] S64x1024.size inb) (ix2 k l)
      = ((zb (shift o ho l) k : ℝ) : EReal) :=
  (View.ld_unit_apply_of x0 _ _ _ _ (ix2 k (shift o ho l)) fun a => by
    match a with
    | ⟨0, _⟩ => exact (Nat.zero_add _).symm
    | ⟨1, _⟩ => rfl).trans (hz _ k)

/-- A chunk's stored words, placed in the block, name the nearest codes. -/
theorem tile_nearest {p : IVec S1x1024 32} (o : ℕ) (ho : o + 1024 ≤ 4096)
    (hp : ∀ l, Nearest w (zb (shift o ho l)) (p (ix2 (0 : Fin 1) l))) (q : Fin 4096) (x : S1x1024.Idx)
    (hx : ∀ a, ((ix2 (0 : Fin 1) q : S1x4096.Idx) a : ℕ) = (![0, o] : Fin 2 → ℕ) a + x a) : Nearest w (zb q) (p x) := by
  have h1 : q.val = o + (x 1).val := hx 1
  have e : shift o ho (x 1) = q := Fin.ext h1.symm
  have e0 : x = ix2 (0 : Fin 1) (x 1) := by
    rw [eq_ix2 x]
    congr 1
    exact Subsingleton.elim (α := Fin 1) _ _
  have h := hp (x 1)
  rw [e] at h
  rw [e0]
  exact h

/-- What the canon of a list of stores reads at a place has the property that every store covering it has there. -/
theorem canon_forall {S : Shape} {e : EltTy} (P : Elt Ideal e → Prop) (y : S.Idx) :
    ∀ L : List (View.Piece (Elt Ideal) S e), (∃ p ∈ L, y ∈ p.1.set) →
      (∀ p ∈ L, ∀ x : p.1.shape.Idx, p.1.emb x = y → P (p.2 x)) → P (View.canon L y)
  | [], hc, _ => by obtain ⟨p, hp, _⟩ := hc; exact absurd hp List.not_mem_nil
  | p :: L, hc, h => by
    by_cases hm : y ∈ p.1.set
    · obtain ⟨x, hx⟩ := p.1.exists_idx_of_mem hm
      have hx' : p.1.emb x = y := hx
      have := h p List.mem_cons_self x hx'
      rw [← hx', View.canon_cons_emb]
      exact this
    · rw [View.canon_cons_of_not_mem _ _ hm]
      refine canon_forall P y L ?_ fun q hq => h q (List.mem_cons_of_mem _ hq)
      obtain ⟨q, hq, hyq⟩ := hc
      rcases List.mem_cons.mp hq with rfl | hq'
      · exact absurd hyq hm
      · exact ⟨q, hq', hyq⟩

/-- The block a grid point writes: at each column the word of the nearest code. -/
theorem block_nearest (hw : ∀ n k, x1 (ix2 n k) = ((w n k : ℝ) : EReal))
    (hz : ∀ q k, x0 (ix2 k q) = ((zb q k : ℝ) : EReal)) (q : Fin 4096) :
    Nearest w (zb q) (out0_2 (F := Ideal) x0 x1 (ix2 (0 : Fin 1) q)) := by
  have c0 := ld_columns hz 0 (by decide) inb_S64x4096_S64x1024_0_0
  have c1 := ld_columns hz 1024 (by decide) inb_S64x4096_S64x1024_0_1024
  have c2 := ld_columns hz 2048 (by decide) inb_S64x4096_S64x1024_0_2048
  have c3 := ld_columns hz 3072 (by decide) inb_S64x4096_S64x1024_0_3072
  have hc := ld_codes hw
  obtain ⟨p3, p2, p1, p0, e, a3, a2, a1, a0⟩ := chunks x0 x1 (dist_lt_top hc c0) (dist_lt_top hc c1)
    (dist_lt_top hc c2) (dist_lt_top hc c3)
  have b0 := Answers.nearest a0 hc c0
  have b1 := Answers.nearest a1 hc c1
  have b2 := Answers.nearest a2 hc c2
  have b3 := Answers.nearest a3 hc c3
  rw [e]
  refine canon_forall (Nearest w (zb q)) (ix2 (0 : Fin 1) q) _ (cover0_2 p3 p2 p1 p0 _) ?_
  intro p hp x hx
  have hx' : ∀ a, ((ix2 (0 : Fin 1) q : S1x4096.Idx) a : ℕ) = p.1.off a + p.1.stride a * x a := fun a => by rw [← hx]; rfl
  simp only [List.mem_cons, List.not_mem_nil, or_false] at hp
  rcases hp with rfl | rfl | rfl | rfl
  · exact tile_nearest 3072 (by decide) b3 q x fun a => (hx' a).trans (congrArg ((![0, 3072] : Fin 2 → ℕ) a + ·) (Nat.one_mul _))
  · exact tile_nearest 2048 (by decide) b2 q x fun a => (hx' a).trans (congrArg ((![0, 2048] : Fin 2 → ℕ) a + ·) (Nat.one_mul _))
  · exact tile_nearest 1024 (by decide) b1 q x fun a => (hx' a).trans (congrArg ((![0, 1024] : Fin 2 → ℕ) a + ·) (Nat.one_mul _))
  · exact tile_nearest 0 (by decide) b0 q x fun a => (hx' a).trans (congrArg ((![0, 0] : Fin 2 → ℕ) a + ·) (Nat.one_mul _))

end Block

end Cert.Proof
-- ==== Proof.Array.lean ====
/- The whole array the kernel's pipeline leaves, over finite inputs: at each column the word of the nearest code. -/
module

public import Idealize.ShloMosaic.Lib.Pipeline.Value
public import Idealize.ShloMosaic.Lib.Claim
public import proofs.«01_k».proof.Proof.Block

@[expose] public section

set_option maxRecDepth 16384

noncomputable section

namespace Cert.Proof

open Idealize.ShloMosaic Idealize.ShloMosaic.ValueIdx Idealize.ShloMosaic.TcCoe Idealize.SL.Sem
open Cert.KernelIdeal Cert.KernelIdeal.Gen

/-- An array holds the real numbers `f`. -/
def Holds {a b : ℕ} (x : (⟨2, ![a, b]⟩ : Shape).Idx → EReal) (f : Fin a → Fin b → ℝ) : Prop :=
  ∀ i j, x (ix2 i j) = ((f i j : ℝ) : EReal)

/-- The word of every row's nearest code. -/
def Codes (w : Fin 1024 → Fin 64 → ℝ) (z : Fin 8192 → Fin 64 → ℝ) (v : IVec S8192 32) : Prop :=
  ∀ r, Nearest w (z r) (v (ix1 r))

/-- The codes of the rows are determined. -/
theorem Codes.unique {w : Fin 1024 → Fin 64 → ℝ} {z : Fin 8192 → Fin 64 → ℝ} {v v' : IVec S8192 32}
    (h : Codes w z v) (h' : Codes w z v') : v = v' := by
  funext i
  rw [eq_ix1 i]
  exact (h (i 0)).unique (h' (i 0))

variable (m : (ℓ : Loc nD τ sig) → Buf (Elt Ideal) ℓ) (ρ : Dev nD → PrngReg)

/-- The block indices of the three windows at a grid point. -/
theorem index0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-- Column `q` of the block of grid point `t`, as a column of the array. -/
def column (t : Fin cfg0.N) (q : Fin 4096) : Fin 8192 :=
  ⟨t.val * 4096 + q.val, by have h : t.val < 2 := t.isLt; omega⟩

/-- Where the blocks lie in their arrays. -/
theorem emb0 (t : Fin cfg0.N) (k : Fin 64) (q : Fin 4096) :
    ((cfg0.win 0).blk t).view.emb (ix2 k q : S64x4096.Idx) = (ix2 k (column t q) : S64x8192.Idx) := by
  obtain ⟨e0, e1⟩ := index0 t
  funext a; apply Fin.ext
  match a with
  | ⟨0, _⟩ => show win0_0.index t (0 : Fin 2) * 64 + 1 * k.val = k.val; omega
  | ⟨1, _⟩ => show win0_0.index t (1 : Fin 2) * 4096 + 1 * q.val = t.val * 4096 + q.val; rw [e1]; omega
theorem emb1 (t : Fin cfg0.N) (n : Fin 1024) (k : Fin 64) :
    ((cfg0.win 1).blk t).view.emb (ix2 n k : S1024x64.Idx) = (ix2 n k : S1024x64.Idx) := by
  obtain ⟨e0, e1⟩ := index1 t
  funext a; apply Fin.ext
  match a with
  | ⟨0, _⟩ => show win0_1.index t (0 : Fin 2) * 1024 + 1 * n.val = n.val; omega
  | ⟨1, _⟩ => show win0_1.index t (1 : Fin 2) * 64 + 1 * k.val = k.val; omega
theorem emb2 (t : Fin cfg0.N) (q : Fin 4096) :
    ((cfg0.win 2).blk t).view.emb (ix2 (0 : Fin 1) q : S1x4096.Idx) = (ix2 (0 : Fin 1) (column t q) : S1x8192.Idx) := by
  obtain ⟨e0, e1⟩ := index2 t
  funext a; apply Fin.ext
  match a with
  | ⟨0, _⟩ => show win0_2.index t (0 : Fin 2) * 1 + 1 * 0 = 0; omega
  | ⟨1, _⟩ => show win0_2.index t (1 : Fin 2) * 4096 + 1 * q.val = t.val * 4096 + q.val; rw [e1]; omega

/-- An index of an array with one row is a column. -/
theorem eq_row {b : ℕ} (i : (⟨2, ![1, b]⟩ : Shape).Idx) : i = ix2 (0 : Fin 1) (i 1) :=
  (eq_ix2 i).trans (congrArg (ix2 · (i 1)) (Subsingleton.elim (α := Fin 1) _ _))

/-- The pipeline reads the first argument transposed. -/
theorem entry_rows (c : Dev nD) :
    V m c main_call0_v0 = transpose S64x8192 [1, 0] (m ((c : Thread nD τ).loc main_arg0)) transposes_S8192x64_S64x8192_1_0 := by
  show StableHlo.after hostOps0 (fun b => m (c, b)) (Proc.devRef .tc main_call0_v0) = _
  after_results
  rfl

section Finite

variable {m} {c : Dev nD} {z : Fin 8192 → Fin 64 → ℝ} {w : Fin 1024 → Fin 64 → ℝ}

/-- The columns of a block are rows of the first argument. -/
theorem block_columns (hz : Holds (m ((c : Thread nD τ).loc main_arg0)) z) (t : Fin cfg0.N) (q : Fin 4096) (k : Fin 64) :
    iblk m c 0 t (ix2 k q : S64x4096.Idx) = ((z (column t q) k : ℝ) : EReal) := by
  have e : iblk m c 0 t (ix2 k q : S64x4096.Idx) = V m c main_call0_v0 (ix2 k (column t q) : S64x8192.Idx) :=
    congrArg (V m c main_call0_v0) (emb0 t k q)
  rw [e, entry_rows]
  refine (transpose_apply [1, 0] _ _ _ (ix2 (column t q) k : S8192x64.Idx) fun b => ?_).trans (hz _ _)
  match b with
  | ⟨0, _⟩ => rfl
  | ⟨1, _⟩ => rfl

/-- The codes of a block are the second argument. -/
theorem block_codes (hw : Holds (m ((c : Thread nD τ).loc main_arg1)) w) (t : Fin cfg0.N) (n : Fin 1024) (k : Fin 64) :
    iblk m c 1 t (ix2 n k : S1024x64.Idx) = ((w n k : ℝ) : EReal) := by
  have e : iblk m c 1 t (ix2 n k : S1024x64.Idx) = V m c main_arg1 (ix2 n k : S1024x64.Idx) :=
    congrArg (V m c main_arg1) (emb1 t n k)
  rw [e, V_main_arg1]
  exact hw n k

/-- The array the pipeline leaves. -/
theorem array_nearest (hz : Holds (m ((c : Thread nD τ).loc main_arg0)) z)
    (hw : Holds (m ((c : Thread nD τ).loc main_arg1)) w) (r : Fin 8192) :
    Nearest w (z r) ((dats m 0 c).arrAt 2 cfg0.N (ix2 (0 : Fin 1) r : S1x8192.Idx)) := by
  refine (dats m 0 c).arrAt_forall_of_cover 2 (fun (i : S1x8192.Idx) (v : BitVec 32) => Nearest w (z (i 1)) v) ?_ ?_ (ix2 (0 : Fin 1) r : S1x8192.Idx)
  · intro t _ y
    have hy : y = (ix2 (0 : Fin 1) (y 1) : S1x4096.Idx) := eq_row (b := 4096) y
    have h := block_nearest (x0 := iblk m c 0 t) (x1 := iblk m c 1 t) (block_codes hw t) (block_columns hz t) (y 1)
    have e : (dats m 0 c).flushed 2 t y = out0_2 (F := Ideal) (iblk m c 0 t) (iblk m c 1 t) (ix2 (0 : Fin 1) (y 1) : S1x4096.Idx) := by
      rw [← hy]
      exact congrFun (congrArg ((cfg0.win 2).cut (grid0.coords t)) (after0_2 m c t)) y
    have e' : ((((cfg0.win 2).blk t).view.emb y : S1x8192.Idx) 1 : Fin 8192) = column t (y 1) :=
      congrArg (fun j : S1x8192.Idx => (j 1 : Fin 8192)) ((congrArg ((cfg0.win 2).blk t).view.emb hy).trans (emb2 t (y 1)))
    show Nearest w (z ((((cfg0.win 2).blk t).view.emb y : S1x8192.Idx) 1)) ((dats m 0 c).flushed 2 t y)
    rw [e, e']
    exact h
  · intro i
    have hi : (i 1).val < 8192 := (i 1).isLt
    have ht : (i 1).val / 4096 < 2 := by omega
    refine ⟨(⟨(i 1).val / 4096, ht⟩ : Fin cfg0.N), flush0_2 _, ?_⟩
    have h := ((cfg0.win 2).blk (⟨(i 1).val / 4096, ht⟩ : Fin cfg0.N)).view.emb_mem_set
      (ix2 (0 : Fin 1) (⟨(i 1).val % 4096, by omega⟩ : Fin 4096) : S1x4096.Idx)
    rw [emb2] at h
    have e : i = (ix2 (0 : Fin 1) (column (⟨(i 1).val / 4096, ht⟩ : Fin cfg0.N) ⟨(i 1).val % 4096, by omega⟩) : S1x8192.Idx) := by
      refine (eq_row (b := 8192) i).trans (congrArg (ix2 (0 : Fin 1)) (Fin.ext ?_))
      show (i 1).val = (i 1).val / 4096 * 4096 + (i 1).val % 4096
      omega
    exact (congrArg (· ∈ ((cfg0.win 2).blk (⟨(i 1).val / 4096, ht⟩ : Fin cfg0.N)).view.set) e).mpr h

end Finite

end Cert.Proof
-- ==== Proof.KernelRun.lean ====
/- The kernel's run over finite inputs: it ends with the word of every row's nearest code and its arguments as launched. -/
module

public import proofs.«01_k».proof.Proof.Array

@[expose] public section

set_option maxRecDepth 16384

noncomputable section

namespace Cert.Proof

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- The result of the kernel: the array the pipeline leaves, its one row as a vector. -/
def kernelResult (c : Dev nD) : IVec S8192 32 :=
  shapeCast S8192 ((dats m 0 c).arrAt 2 cfg0.N : IVec S1x8192 32) shapeCasts_S1x8192_S8192

/-- The result buffer after the last host line. -/
theorem tail_result (c : Dev nD) :
    Pipeline.afterTail₀ cfgs (dats m) 0 (V0 m) [hostOps1] c main_v0 = kernelResult m c := by
  unfold Pipeline.afterTail₀ kernelResult
  show StableHlo.after hostOps1 _ (Proc.devRef .tc main_v0) = _
  after_results
  exact congrArg (fun x : IVec S1x8192 32 => shapeCast S8192 x shapeCasts_S1x8192_S8192)
    (Pipeline.withArrays_arr spec0 (by decide) c (V0 m c) (fun w => (dats m 0 c).arrAt w cfg0.N) 2)

/-- Every run of the kernel ends with the result at `kernelResult` and the arguments as launched. -/
theorem kernel_run : θ_run defs (onTc (τ := τ) (main (F := Ideal))) ⟨m, fun _ => 0, ρ⟩ (fun r => ∀ c : Dev nD,
      r.2.mem ((c.tc : Thread nD τ).loc main_v0) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v0 (Pipeline.mem_restRefs_of main_v0 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩) (run_main m ρ)

/-- Over finite inputs the result names every row's nearest code. -/
theorem kernel_codes {c : Dev nD} {z : Fin 8192 → Fin 64 → ℝ} {w : Fin 1024 → Fin 64 → ℝ}
    (hz : Holds (m ((c : Thread nD τ).loc main_arg0)) z) (hw : Holds (m ((c : Thread nD τ).loc main_arg1)) w) :
    Codes w z (kernelResult m c) := fun r => by
  have e : kernelResult m c (ix1 r) = (dats m 0 c).arrAt 2 cfg0.N (ix2 (0 : Fin 1) r : S1x8192.Idx) :=
    shapeCast_1a_a_apply _ _ r
  rw [e]
  exact array_nearest hz hw r

end Cert.Proof
-- ==== Proof.RefRun.lean ====
/- The reference's run: it ends with the positions its argmin gives and its arguments as launched. -/
module

public import Idealize.ShloMosaic.PureOps.Ideal.Laws
public import Idealize.ShloMosaic.Lib.StableHlo.Run
public import Idealize.ShloMosaic.Lib.Claim
public import proofs.«01_k».proof.Proof.Gen.ReferenceIdeal

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The squared distances of the rows of `a` to the rows of `b`, as the reference computes them. -/
def distances (a : FVec F S8192x64 .f32) (b : FVec F S1024x64 .f32) : FVec F S8192x1024 .f32 :=
  addf
    (subf
      (broadcastInDim S8192x1024 ![0, 1] bcast_S8192x1_S8192x1024_0_1
        (broadcastInDim S8192x1 ![0] bcast_S8192_S8192x1_0
          (Host.reduceAdd (mulf a a) (constant S_ .f32 0x00000000#32) reducesTo_S8192x64_S8192_d1 h_S_)))
      (mulf (broadcastInDim S8192x1024 ![] bcast_S_S8192x1024 (constant S_ .f32 0x40000000#32))
        (Host.dotGeneral dot_S8192x64_S64x1024_S8192x1024_1_0_0_1_n_n none a
          (transpose S64x1024 [1, 0] b transposes_S1024x64_S64x1024_1_0))))
    (broadcastInDim S8192x1024 ![0, 1] bcast_S1x1024_S8192x1024_0_1
      (broadcastInDim S1x1024 ![1] bcast_S1024_S1x1024_1
        (Host.reduceAdd (mulf b b) (constant S_ .f32 0x00000000#32) reducesTo_S1024x64_S1024_d1 h_S_)))

/-- The positions of the least of the values of each row, for an array of any extents. -/
def argminRows {R C : ℕ} {u : Shape} (h : Shape.ReducesTo ⟨2, ![R, C]⟩ [1] ⟨1, ![R]⟩) (hu : 0 < u.numel)
    (d : FVec F ⟨2, ![R, C]⟩ .f32) : IVec ⟨1, ![R]⟩ 32 := fun j =>
  (Host.argReduce reducer_argmin_f32_i32 d (iotaInDim ⟨2, ![R, C]⟩ 32 1) (constant u .f32 0x7F800000#32)
    (constantI u 32 0#32) h hu j).2

/-- The positions the reference returns. -/
def positions (d : FVec F S8192x1024 .f32) : IVec S8192 32 :=
  argminRows (R := 8192) (C := 1024) (u := S_) reducesTo_S8192x1024_S8192_d1 h_S_ d

/-- @main's operations, in order. -/
abbrev ops : List (HloOp τ sig (Elt F)) :=
  [ binary main_arg0 main_arg0 main_v0 mulf,
    nullary main_cst (constant S_ .f32 0x00000000#32),
    binary main_v0 main_cst main_v1 (fun x v => Host.reduceAdd x v reducesTo_S8192x64_S8192_d1 h_S_),
    unary main_v1 main_v2 (broadcastInDim S8192x1 ![0] bcast_S8192_S8192x1_0),
    binary main_arg1 main_arg1 main_v3 mulf,
    nullary main_cst_0 (constant S_ .f32 0x00000000#32),
    binary main_v3 main_cst_0 main_v4 (fun x v => Host.reduceAdd x v reducesTo_S1024x64_S1024_d1 h_S_),
    unary main_arg1 main_v5 (transpose S64x1024 [1, 0] · transposes_S1024x64_S64x1024_1_0),
    binary main_arg0 main_v5 main_v6 (fun l r => Host.dotGeneral dot_S8192x64_S64x1024_S8192x1024_1_0_0_1_n_n none l r),
    nullary main_cst_1 (constant S_ .f32 0x40000000#32),
    unary main_cst_1 main_v7 (broadcastInDim S8192x1024 ![] bcast_S_S8192x1024),
    binary main_v7 main_v6 main_v8 mulf,
    unary main_v2 main_v9 (broadcastInDim S8192x1024 ![0, 1] bcast_S8192x1_S8192x1024_0_1),
    binary main_v9 main_v8 main_v10 subf,
    unary main_v4 main_v11 (broadcastInDim S1x1024 ![1] bcast_S1024_S1x1024_1),
    unary main_v11 main_v12 (broadcastInDim S8192x1024 ![0, 1] bcast_S1x1024_S8192x1024_0_1),
    binary main_v10 main_v12 main_v13 addf,
    TRef.nullary main_call0.v0 (iotaInDim S8192x1024 32 1),
    TRef.nullary main_call0.cst (constant S_ .f32 0x7F800000#32),
    TRef.nullary main_call0.c (constantI S_ 32 0#32),
    TRef.quaternary (.of main_v13 : TRef sig ⟨S8192x1024, .f32⟩) main_call0.v0 main_call0.cst main_call0.c main_call0.v1_0
      (fun x y u v j => (Host.argReduce reducer_argmin_f32_i32 x y u v reducesTo_S8192x1024_S8192_d1 h_S_ j).1),
    TRef.quaternary (.of main_v13 : TRef sig ⟨S8192x1024, .f32⟩) main_call0.v0 main_call0.cst main_call0.c main_call0.v1_1
      (fun x y u v j => (Host.argReduce reducer_argmin_f32_i32 x y u v reducesTo_S8192x1024_S8192_d1 h_S_ j).2) ]

/-- @main is that straight line. -/
theorem main_eq (c : Dev nD) : main (F := F) c = seq ops := rfl

/-- The fold of the operations, at the result's buffer. -/
theorem result_eq (V : Valuation τ sig (Elt F)) :
    after ops V (main_v14 : DevRef τ sig)
      = positions (distances (V (main_arg0 : DevRef τ sig)) (V (main_arg1 : DevRef τ sig))) := by
  after_results
  rfl

/-- No operation writes an argument. -/
theorem arg0_eq (V : Valuation τ sig (Elt F)) :
    after ops V (main_arg0 : DevRef τ sig) = V (main_arg0 : DevRef τ sig) := by
  after_results
theorem arg1_eq (V : Valuation τ sig (Elt F)) :
    after ops V (main_arg1 : DevRef τ sig) = V (main_arg1 : DevRef τ sig) := by
  after_results

/-- The program has no scoped buffers and no scoped semaphores. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., nullary_bufs_sub .., binary_bufs_sub .., unary_bufs_sub .., binary_bufs_sub ..,
    nullary_bufs_sub .., binary_bufs_sub .., unary_bufs_sub .., binary_bufs_sub .., nullary_bufs_sub ..,
    unary_bufs_sub .., binary_bufs_sub .., unary_bufs_sub .., binary_bufs_sub .., unary_bufs_sub ..,
    unary_bufs_sub .., binary_bufs_sub .., nullary_bufs_sub .., nullary_bufs_sub .., nullary_bufs_sub ..,
    quaternary_bufs_sub .., quaternary_bufs_sub ..⟩

/-- Every run of the reference ends with its positions in the result and its arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
        = positions (distances (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v14).trans (result_eq _),
      (h c main_arg0).trans (arg0_eq _), (h c main_arg1).trans (arg1_eq _)⟩)
    (run_seq scopedRefs_eq scopedSems_eq defs main (fun _ => ops) main_eq (fun _ => ops_sub) m ρ)

end Cert.Proof.Ref
-- ==== Proof.RefFold.lean ====
/- What the reference's argmin returns for a row of finite values: the position of the first least value. -/
module

public import proofs.«01_k».proof.Proof.RefRun
public import proofs.«01_k».proof.Proof.LexMin
public import proofs.«01_k».proof.Proof.Words
public import Idealize.ShloMosaic.Lib.IdealHost

@[expose] public section

set_option maxRecDepth 16384

noncomputable section

namespace Cert.Proof.Ref

open Cert.ReferenceIdeal Cert.ReferenceIdeal.Gen
open Idealize.ShloMosaic Idealize.ShloMosaic.ValueIdx

/-- The words of two small positions compare as the positions do. -/
theorem slt_word {p n : ℕ} (hp : p < 2 ^ 31) (hn : n < 2 ^ 31) :
    (BitVec.ofNat 32 p).slt (BitVec.ofNat 32 n) = decide (p < n) := by
  have e : ∀ q : ℕ, q < 2 ^ 31 → (BitVec.ofNat 32 q).toInt = (q : ℤ) := fun q hq => by
    rw [BitVec.toInt_eq_toNat_of_lt (by rw [BitVec.toNat_ofNat]; omega), BitVec.toNat_ofNat]
    congr 1
    omega
  rw [BitVec.slt, e p hp, e n hn]
  exact decide_eq_decide.2 Int.ofNat_lt

/-- The reducer keeps the smaller value, and of two equal values the one at the earlier position. -/
theorem reducer_apply (x y : EReal) {p n : ℕ} (hp : p < 2 ^ 31) (hn : n < 2 ^ 31) :
    reducer_argmin_f32_i32 (F := Ideal) (x, BitVec.ofNat 32 p) (y, BitVec.ofNat 32 n)
      = if x < y ∨ (x = y ∧ p < n) then (x, BitVec.ofNat 32 p) else (y, BitVec.ofNat 32 n) := by
  have hs := slt_word hp hn
  unfold reducer_argmin_f32_i32
  simp only [Ideal.cmpf_def, Ideal.cmp, IntOp.cmpi, hs, Scalar.select, IntOp.ori, IntOp.andi]
  rcases lt_trichotomy x y with h | h | h
  · simp [h, h.ne]
  · subst h
    by_cases hpn : p < n
    · simp [hpn]
    · simp [hpn]
  · simp [h.not_gt, h.ne']

/-- The reducer folded over positions in any order, once it has seen one. -/
theorem fold_positions (f : ℕ → EReal) : ∀ (L : List ℕ) (S : ℕ → Prop) (p : ℕ), IsFirstMin f S p → p < 2 ^ 31 →
    (∀ n ∈ L, n < 2 ^ 31) → ∃ q, IsFirstMin f (fun j => S j ∨ j ∈ L) q
      ∧ (L.map fun n => (f n, BitVec.ofNat 32 n)).foldl (reducer_argmin_f32_i32 (F := Ideal)) (f p, BitVec.ofNat 32 p)
        = (f q, BitVec.ofNat 32 q)
  | [], S, p, h, _, _ => ⟨p, h.congr_set fun j => by simp, rfl⟩
  | n :: L, S, p, h, hp, hL => by
    have hn := hL n List.mem_cons_self
    have hm := (IsFirstMin.single f n).merge h
    by_cases hc : f p < f n ∨ (f p = f n ∧ p < n)
    · rw [if_pos hc] at hm
      obtain ⟨q, hq, e⟩ := fold_positions f L _ p hm hp fun k hk => hL k (List.mem_cons_of_mem _ hk)
      refine ⟨q, hq.congr_set fun j => by simp only [List.mem_cons]; tauto, ?_⟩
      rw [List.map_cons, List.foldl_cons, reducer_apply _ _ hp hn, if_pos hc]
      exact e
    · rw [if_neg hc] at hm
      obtain ⟨q, hq, e⟩ := fold_positions f L _ n hm hn fun k hk => hL k (List.mem_cons_of_mem _ hk)
      refine ⟨q, hq.congr_set fun j => by simp only [List.mem_cons]; tauto, ?_⟩
      rw [List.map_cons, List.foldl_cons, reducer_apply _ _ hp hn, if_neg hc]
      exact e

/-- From the initial pair, infinity at position zero, over finite values. -/
theorem fold_start (f : ℕ → EReal) (L : List ℕ) (hne : L ≠ []) (hf : ∀ n ∈ L, f n < ⊤) (hL : ∀ n ∈ L, n < 2 ^ 31) :
    ∃ q, IsFirstMin f (· ∈ L) q
      ∧ (L.map fun n => (f n, BitVec.ofNat 32 n)).foldl (reducer_argmin_f32_i32 (F := Ideal)) ((⊤ : EReal), 0#32)
        = (f q, BitVec.ofNat 32 q) := by
  match L, hne with
  | n :: L, _ =>
    have hn := hL n List.mem_cons_self
    obtain ⟨q, hq, e⟩ := fold_positions f L _ n (IsFirstMin.single f n) hn fun k hk => hL k (List.mem_cons_of_mem _ hk)
    refine ⟨q, hq.congr_set fun j => by simp only [List.mem_cons], ?_⟩
    have hc : ¬ ((⊤ : EReal) < f n ∨ ((⊤ : EReal) = f n ∧ 0 < n)) := by
      have := hf n List.mem_cons_self
      rintro (h | h)
      · exact absurd h not_top_lt
      · exact this.ne h.1.symm
    rw [List.map_cons, List.foldl_cons, show (0#32 : BitVec 32) = BitVec.ofNat 32 0 from rfl,
      reducer_apply _ _ (by norm_num) hn, if_neg hc]
    exact e

section Row

variable {R C : ℕ} (h : Shape.ReducesTo ⟨2, ![R, C]⟩ [1] ⟨1, ![R]⟩)

/-- The row of an index is the index the reduction drops it to. -/
theorem drop_row (r : Fin R) (i : (⟨2, ![R, C]⟩ : Shape).Idx) : h.drop i = ix1 r ↔ i 0 = r := by
  have e : h.drop i = ix1 (i 0) := by
    funext b
    match b with
    | ⟨0, _⟩ => exact Fin.ext (Shape.ReducesTo.drop_apply_val_of_eq _ i 0 0 (hb := Nat.zero_lt_one) (hc := rfl))
  rw [e]
  constructor
  · intro h; exact congrFun h 0
  · intro h; exact congrArg ix1 h

/-- The positions of a row in the order the reduction visits them. -/
def rowPositions (r : Fin R) : List ℕ :=
  ((List.finRange (⟨2, ![R, C]⟩ : Shape).numel).filter
    fun n => h.drop ((⟨2, ![R, C]⟩ : Shape).rowMajor.symm n) = ix1 r).map
      fun n => ((⟨2, ![R, C]⟩ : Shape).rowMajor.symm n 1).val

/-- They are all the columns. -/
theorem mem_rowPositions (r : Fin R) (j : ℕ) : j ∈ rowPositions h r ↔ j < C := by
  unfold rowPositions
  simp only [List.mem_map, List.mem_filter, List.mem_finRange, true_and, decide_eq_true_eq]
  constructor
  · rintro ⟨n, _, rfl⟩
    exact ((⟨2, ![R, C]⟩ : Shape).rowMajor.symm n 1).isLt
  · intro hj
    refine ⟨(⟨2, ![R, C]⟩ : Shape).rowMajor (ix2 r (⟨j, hj⟩ : Fin C)), ?_, ?_⟩
    · rw [Equiv.symm_apply_apply, drop_row]
      rfl
    · rw [Equiv.symm_apply_apply]
      rfl

/-- The pairs the reduction folds for a row. -/
theorem fiber_eq (d : FVec Ideal ⟨2, ![R, C]⟩ .f32) (r : Fin R) (f : ℕ → EReal)
    (hd : ∀ n : Fin C, d (ix2 r n) = f n.val) :
    Host.argReduceFiber d (iotaInDim ⟨2, ![R, C]⟩ 32 1) h (ix1 r)
      = (rowPositions h r).map fun n => (f n, BitVec.ofNat 32 n) := by
  unfold rowPositions Host.argReduceFiber
  rw [List.map_map]
  refine List.map_congr_left fun n hn => ?_
  have hr : (⟨2, ![R, C]⟩ : Shape).rowMajor.symm n 0 = r :=
    (drop_row h r _).1 (of_decide_eq_true (List.mem_filter.1 hn).2)
  have hi : (⟨2, ![R, C]⟩ : Shape).rowMajor.symm n = ix2 r ((⟨2, ![R, C]⟩ : Shape).rowMajor.symm n 1) :=
    (eq_ix2 _).trans (congrArg (ix2 · _) hr)
  refine Prod.ext ?_ rfl
  exact (congrArg d hi).trans (hd _)

/-- The pair the reduction returns for a row of finite values. -/
theorem argReduce_row (d : FVec Ideal ⟨2, ![R, C]⟩ .f32) (r : Fin R) (f : ℕ → EReal)
    (hd : ∀ n : Fin C, d (ix2 r n) = f n.val) (hf : ∀ n, n < C → f n < ⊤) (h0 : 0 < C) (hC : C ≤ 2 ^ 31)
    {u : Shape} (hu : 0 < u.numel) :
    ∃ q, IsFirstMin f (fun j => j < C) q
      ∧ Host.argReduce (reducer_argmin_f32_i32 (F := Ideal)) d (iotaInDim ⟨2, ![R, C]⟩ 32 1)
          (constant u .f32 0x7F800000#32) (constantI u 32 0#32) h hu (ix1 r) = (f q, BitVec.ofNat 32 q) := by
  have hmem := mem_rowPositions h r
  obtain ⟨q, hq, e⟩ := fold_start f (rowPositions h r) (List.ne_nil_of_mem ((hmem 0).2 h0))
    (fun n hn => hf n ((hmem n).1 hn)) (fun n hn => lt_of_lt_of_le ((hmem n).1 hn) hC)
  refine ⟨q, hq.congr_set hmem, ?_⟩
  rw [Ideal.argReduce_eq_reduce2]
  refine (Host.reduce2_eq_foldl_fiber _ _ _ _ _ _ _ _).trans ?_
  rw [fiber_eq h d r f hd, ← e, constant_apply, ofBits_inf]
  rfl

/-- The position the reduction returns for a row of finite values. -/
theorem argminRows_apply (d : FVec Ideal ⟨2, ![R, C]⟩ .f32) (r : Fin R) (f : ℕ → EReal)
    (hd : ∀ n : Fin C, d (ix2 r n) = f n.val) (hf : ∀ n, n < C → f n < ⊤) (h0 : 0 < C) (hC : C ≤ 2 ^ 31)
    {u : Shape} (hu : 0 < u.numel) :
    ∃ q, IsFirstMin f (fun j => j < C) q ∧ argminRows h hu d (ix1 r) = BitVec.ofNat 32 q := by
  obtain ⟨q, hq, e⟩ := argReduce_row h d r f hd hf h0 hC hu
  exact ⟨q, hq, congrArg Prod.snd e⟩

end Row

/-- The position the reference returns for a row of finite values. -/
theorem positions_apply (d : FVec Ideal S8192x1024 .f32) (r : Fin 8192) (f : ℕ → EReal)
    (hd : ∀ n : Fin 1024, d (ix2 r n) = f n.val) (hf : ∀ n, n < 1024 → f n < ⊤) :
    ∃ q, IsFirstMin f (fun j => j < 1024) q ∧ positions d (ix1 r) = BitVec.ofNat 32 q :=
  argminRows_apply (R := 8192) (C := 1024) reducesTo_S8192x1024_S8192_d1 d r f hd hf (by norm_num) (by norm_num)
    (u := S_) h_S_

end Cert.Proof.Ref
-- ==== Proof.RefValue.lean ====
/- Over finite inputs the reference's result names every row's nearest code. -/
module

public import Idealize.ShloMosaic.Lib.StackMember
public import Idealize.ShloMosaic.Lib.Pipeline.Value
public import proofs.«01_k».proof.Proof.RefFold
public import proofs.«01_k».proof.Proof.Array

@[expose] public section

set_option maxRecDepth 16384

noncomputable section

namespace Cert.Proof.Ref

open Cert.ReferenceIdeal Cert.ReferenceIdeal.Gen
open Idealize.ShloMosaic Idealize.ShloMosaic.ValueIdx

/-- The host's sum of the squares of a row. -/
theorem squares_apply {R C : ℕ} {u : Shape} (h' : Shape.ReducesTo ⟨2, ![R, C]⟩ [1] ⟨1, ![R]⟩)
    (h : Shape.Reduces ⟨2, ![R, C]⟩ [1] ⟨1, ![R]⟩) (hu : 0 < u.numel) (x : FVec Ideal ⟨2, ![R, C]⟩ .f32)
    (r : Fin R) {g : Fin C → ℝ} (hx : ∀ k, x (ix2 r k) = ((g k : ℝ) : EReal)) :
    Host.reduceAdd (mulf x x) (constant (F := Ideal) u .f32 0x00000000#32) h' hu (ix1 r)
      = ((∑ k, g k * g k : ℝ) : EReal) := by
  rw [hostReduceAdd_apply, constant_apply, Ideal.ofBits_zero_f32]
  refine (Ideal.hostReduceAdd_single h' h (mulf x x) 0 (ix1 r)).trans ?_
  rw [zero_add, ← coe_sum]
  refine Finset.sum_congr rfl fun k _ => ?_
  refine (congrArg (fun i => x i * x i) (lift_row h r k)).trans ?_
  exact (congrArg (fun v : EReal => v * v) (hx k)).trans (EReal.coe_mul _ _).symm

section Values

variable {a : FVec Ideal S8192x64 .f32} {b : FVec Ideal S1024x64 .f32} {z : Fin 8192 → Fin 64 → ℝ}
  {w : Fin 1024 → Fin 64 → ℝ}

/-- The host's products of the rows with the codes. -/
theorem products_apply (ha : Holds a z) (hb : Holds b w) (r : Fin 8192) (n : Fin 1024) :
    Host.dotGeneral dot_S8192x64_S64x1024_S8192x1024_1_0_0_1_n_n none a
        (transpose S64x1024 [1, 0] b transposes_S1024x64_S64x1024_1_0) (ix2 r n)
      = ((∑ k, z r k * w n k : ℝ) : EReal) := by
  refine (StackMember.dotGeneral_plain_apply (m := 8192) (k := 64) (n := 1024) none a _ r n).trans ?_
  rw [← coe_sum]
  refine Finset.sum_congr rfl fun k _ => ?_
  have e : transpose S64x1024 [1, 0] b transposes_S1024x64_S64x1024_1_0 (ix2 k n) = b (ix2 n k) :=
    transpose_apply [1, 0] _ _ _ (ix2 n k) fun c => by
      match c with
      | ⟨0, _⟩ => rfl
      | ⟨1, _⟩ => rfl
  rw [e, ha, hb, EReal.coe_mul]

/-- The squared distance of a row to a code: the row's squared length plus the code's score. -/
theorem distances_apply (ha : Holds a z) (hb : Holds b w) (r : Fin 8192) (n : Fin 1024) :
    distances a b (ix2 r n) = (((∑ k, z r k * z r k) + score w (z r) n : ℝ) : EReal) := by
  have e1 : broadcastInDim S8192x1024 ![0, 1] bcast_S8192x1_S8192x1024_0_1
        (broadcastInDim S8192x1 ![0] bcast_S8192_S8192x1_0
          (Host.reduceAdd (mulf a a) (constant (F := Ideal) S_ .f32 0x00000000#32) reducesTo_S8192x64_S8192_d1 h_S_)) (ix2 r n)
      = ((∑ k, z r k * z r k : ℝ) : EReal) := by
    refine (broadcastInDim_apply _ _ _ _ (ix2 r (0 : Fin 1)) fun c => ?_).trans ?_
    · match c with
      | ⟨0, _⟩ => rfl
      | ⟨1, _⟩ => rfl
    refine (broadcastInDim_apply _ _ _ _ (ix1 r) fun c => ?_).trans ?_
    · match c with
      | ⟨0, _⟩ => rfl
    exact squares_apply _ (by decide) _ a r (ha r)
  have e2 : broadcastInDim S8192x1024 ![0, 1] bcast_S1x1024_S8192x1024_0_1
        (broadcastInDim S1x1024 ![1] bcast_S1024_S1x1024_1
          (Host.reduceAdd (mulf b b) (constant (F := Ideal) S_ .f32 0x00000000#32) reducesTo_S1024x64_S1024_d1 h_S_)) (ix2 r n)
      = ((∑ k, w n k * w n k : ℝ) : EReal) := by
    refine (broadcastInDim_apply _ _ _ _ (ix2 (0 : Fin 1) n) fun c => ?_).trans ?_
    · match c with
      | ⟨0, _⟩ => rfl
      | ⟨1, _⟩ => rfl
    refine (broadcastInDim_apply _ _ _ _ (ix1 n) fun c => ?_).trans ?_
    · match c with
      | ⟨0, _⟩ => rfl
    exact squares_apply _ (by decide) _ b n (hb n)
  have e3 : broadcastInDim S8192x1024 ![] bcast_S_S8192x1024 (constant (F := Ideal) S_ .f32 0x40000000#32) (ix2 r n)
      = ((2 : ℝ) : EReal) := by
    rw [broadcastInDim_scalar_apply, constant_apply, ofBits_two]
  unfold distances
  rw [addf_apply, subf_apply, mulf_apply, e1, e2, e3, products_apply ha hb, ← EReal.coe_mul, ← EReal.coe_sub,
    ← EReal.coe_add, score]
  congr 1
  ring

/-- The reference's result. -/
theorem reference_codes (ha : Holds a z) (hb : Holds b w) : Codes w z (positions (distances a b)) := fun r => by
  obtain ⟨q, hq, e⟩ := positions_apply (distances a b) r
    (fun n => if h : n < 1024 then (((∑ k, z r k * z r k) + score w (z r) ⟨n, h⟩ : ℝ) : EReal) else ⊤)
    (fun n => by rw [dif_pos n.isLt]; exact distances_apply ha hb r n)
    (fun n hn => by rw [dif_pos hn]; exact EReal.coe_lt_top _)
  refine ⟨q, hq.of_order fun i j hi hj => ?_, e⟩
  rw [dif_pos hi, dif_pos hj, scoreAt, scoreAt, dif_pos hi, dif_pos hj, EReal.coe_lt_coe_iff, EReal.coe_lt_coe_iff]
  exact add_lt_add_iff_left _

end Values

end Cert.Proof.Ref
-- ==== Proof.Finite.lean ====
/- The precondition, that every element of the two arguments is finite, as real numbers held by the arrays. -/
module

public import Idealize.ShloMosaic.Lib.Pipeline.Value
public import Idealize.ShloMosaic.Lib.IdealHost
public import proofs.«01_k».proof.Pre_finite
public import proofs.«01_k».proof.Proof.Array

@[expose] public section

set_option maxRecDepth 16384

noncomputable section

namespace Cert.Proof

open Idealize.ShloMosaic Idealize.ShloMosaic.ValueIdx

/-- The side conditions of the precondition's operations. -/
theorem finite_facts : Cert.Pre_finite.Facts := ⟨by decide, by decide⟩

/-- An ideal value whose magnitude is below infinity is a real number. -/
theorem real_of_abs_lt {x : EReal} (h : max x (-x) < ⊤) : x = ((x.toReal : ℝ) : EReal) := by
  have h1 : x ≠ ⊤ := by
    rintro rfl
    exact absurd (le_max_left _ _) h.not_ge
  have h2 : x ≠ ⊥ := by
    rintro rfl
    exact absurd (le_max_right _ _) (by rw [EReal.neg_bot] at *; exact h.not_ge)
  exact (EReal.coe_toReal h1 h2).symm

section Finite

attribute [local instance] finite_facts

variable {a : FVec Ideal Cert.Pre_finite.S8192x64 .f32} {b : FVec Ideal Cert.Pre_finite.S1024x64 .f32}

/-- The precondition at a place of the two arguments laid one after the other. -/
theorem finite_at (h : Cert.Pre_finite.fn a b = fun _ => 1#1) (i : Cert.Pre_finite.S9216x64.Idx) :
    concatenate Cert.Pre_finite.S9216x64 0 [⟨Cert.Pre_finite.S8192x64, a⟩, ⟨Cert.Pre_finite.S1024x64, b⟩]
        Cert.Pre_finite.Facts.concatenates_S8192x64_S1024x64_S9216x64_d0 i
      = (((concatenate Cert.Pre_finite.S9216x64 0 [⟨Cert.Pre_finite.S8192x64, a⟩, ⟨Cert.Pre_finite.S1024x64, b⟩]
        Cert.Pre_finite.Facts.concatenates_S8192x64_S1024x64_S9216x64_d0 i : EReal).toReal : ℝ) : EReal) := by
  have h' := congrFun h i
  unfold Cert.Pre_finite.fn at h'
  dsimp only at h'
  generalize concatenate Cert.Pre_finite.S9216x64 0 [⟨Cert.Pre_finite.S8192x64, a⟩, ⟨Cert.Pre_finite.S1024x64, b⟩]
        Cert.Pre_finite.Facts.concatenates_S8192x64_S1024x64_S9216x64_d0 = x at h' ⊢
  have e : cmpf (F := Ideal) .olt (Host.absf x) (broadcastInDim Cert.Pre_finite.S9216x64 ![] Cert.Pre_finite.Facts.bcast_S_S9216x64
      (constant Cert.Pre_finite.S_ .f32 0x7F800000#32)) i = BitVec.ofBool (decide (max (x i) (-(x i)) < (⊤ : EReal))) := by
    rw [← ofBits_inf]
    rfl
  refine real_of_abs_lt ?_
  have h2 := e.symm.trans h'
  by_contra hc
  rw [decide_eq_false hc] at h2
  exact absurd h2 (by decide)

/-- The first argument holds real numbers. -/
theorem finite_rows (h : Cert.Pre_finite.fn a b = fun _ => 1#1) : Holds a fun r k => (a (ix2 r k) : EReal).toReal := by
  intro r k
  have e := finite_at h (ix2 (⟨r.val, by omega⟩ : Fin 9216) k)
  rw [concatenate_pair_apply_left (t := Cert.Pre_finite.S9216x64) (0 : Fin 2) a b _ _ rfl (ix2 r k) (fun c => by
    match c with
    | ⟨0, _⟩ => rfl
    | ⟨1, _⟩ => rfl)] at e
  exact e

/-- The second argument holds real numbers. -/
theorem finite_codes (h : Cert.Pre_finite.fn a b = fun _ => 1#1) : Holds b fun n k => (b (ix2 n k) : EReal).toReal := by
  intro n k
  have e := finite_at h (ix2 (⟨n.val + 8192, by omega⟩ : Fin 9216) k)
  rw [concatenate_pair_apply_right (t := Cert.Pre_finite.S9216x64) (0 : Fin 2) a b _ _ rfl rfl (ix2 n k) (fun c hc => by
    match c, hc with
    | ⟨0, _⟩, hc => exact absurd rfl hc
    | ⟨1, _⟩, _ => rfl) rfl] at e
  exact e

end Finite

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefRun
public import proofs.«01_k».proof.Proof.RefValue
public import proofs.«01_k».proof.Proof.Finite
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts finite_facts

/-- The reference runs, keeps its arguments, and has no semaphore that could end away from zero. -/
theorem frame_reference : Cert.quiescent_ReferenceIdeal := fun m g _ =>
  (θ_run Cert.ReferenceIdeal.defs _ _).mono
    (fun r h => ⟨fun c => (h c).2, sem_eq_zero_of_no_sems (by decide) r.2⟩)
    (Ref.run (F := Ideal) m g)

/-- Over finite inputs the kernel and the reference both leave, for each row, the first code nearest to it; that code
    is unique, so the two arrays are the same. -/
theorem same_codes : Cert.algebraic_KernelIdeal_ReferenceIdeal_pre_finite := fun m g m' g' hpre hargs =>
  ⟨fun c => kernelResult m c, kernel_run m g,
    (θ_run Cert.ReferenceIdeal.defs _ _).mono
      (fun r h c => ⟨(h c).1.trans (by
        rw [(hargs c).1, (hargs c).2]
        exact (Ref.reference_codes (finite_rows (hpre c)) (finite_codes (hpre c))).unique
          (kernel_codes m (finite_rows (hpre c)) (finite_codes (hpre c)))), (h c).2⟩)
      (Ref.run (F := Ideal) m' g')⟩

theorem claim : Cert.Claim :=
  ⟨Cert.Kernel.Gen.facts, Cert.KernelIdeal.Gen.facts, Cert.ReferenceIdeal.Gen.facts, finite_facts,
    fun m g _ => Cert.Kernel.Gen.frame m g,
    fun m g _ => Cert.KernelIdeal.Gen.frame m g,
    fun m g _ => Cert.KernelIdeal.Gen.frame m g,
    frame_reference,
    fun m g _ => frame_reference m g trivial,
    IdealRules.named_const.statement Cert.KernelIdeal.κ "big" .f32 0x7F61B1E6#32 ⊤ rfl,
    same_codes⟩

end Cert.Proof

end
